-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x77x49408 : Shape := ⟨3, ![2, 77, 49408]⟩
abbrev S49408x768 : Shape := ⟨2, ![49408, 768]⟩
abbrev S77x768 : Shape := ⟨2, ![77, 768]⟩
abbrev S77x2x49408 : Shape := ⟨3, ![77, 2, 49408]⟩
abbrev S77x2x768 : Shape := ⟨3, ![77, 2, 768]⟩
abbrev S2x77x768 : Shape := ⟨3, ![2, 77, 768]⟩
abbrev S77x2x2048 : Shape := ⟨3, ![77, 2, 2048]⟩
abbrev S2048x768 : Shape := ⟨2, ![2048, 768]⟩
abbrev S154x768 : Shape := ⟨2, ![154, 768]⟩
abbrev S154x2048 : Shape := ⟨2, ![154, 2048]⟩
abbrev S77x1x768 : Shape := ⟨3, ![77, 1, 768]⟩

abbrev nBuf : Space → Nat
  | .hbm => 6
  | .vmem => 6
  | .smem => 0
  | _ => 0

abbrev bufTy : (tb : Table) → Fin (tcTables nBuf tb) → BufTy
  | .hbm, ⟨0, _⟩ => ⟨S2x77x49408, .f32⟩
  | .hbm, ⟨1, _⟩ => ⟨S49408x768, .f32⟩
  | .hbm, ⟨2, _⟩ => ⟨S77x768, .f32⟩
  | .hbm, ⟨3, _⟩ => ⟨S77x2x49408, .f32⟩
  | .hbm, ⟨4, _⟩ => ⟨S77x2x768, .f32⟩
  | .hbm, ⟨5, _⟩ => ⟨S2x77x768, .f32⟩
  | .local _ .vmem, ⟨0, _⟩ => ⟨S77x2x2048, .f32⟩
  | .local _ .vmem, ⟨1, _⟩ => ⟨S77x2x2048, .f32⟩
  | .local _ .vmem, ⟨2, _⟩ => ⟨S2048x768, .f32⟩
  | .local _ .vmem, ⟨3, _⟩ => ⟨S2048x768, .f32⟩
  | .local _ .vmem, ⟨4, _⟩ => ⟨S77x768, .f32⟩
  | .local _ .vmem, ⟨5, _⟩ => ⟨S77x2x768, .f32⟩
  | _, _ => ⟨S2x77x49408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c0_i32_0 : BitVec 32 := 0#32
  let v4 : BitVec 1 := Scalar.cmpi .eq arg0 c0_i32_0
  let v5 : BitVec 32 := Scalar.extui v4
  let c0_i32_1 : BitVec 32 := 0#32
  let v6 : BitVec 1 := Scalar.cmpi .ne v5 c0_i32_1
  v6

def k0_cond3 (i : grid0.Coords) : BitVec 1 :=
  let arg0 : BitVec 32 := BitVec.ofNat 32 (i 0).val
  let c0_i32_2 : BitVec 32 := 0#32
  let v7 : BitVec 1 := Scalar.cmpi .sgt arg0 c0_i32_2
  let v8 : BitVec 32 := Scalar.extui v7
  let c0_i32_3 : BitVec 32 := 0#32
  let v9 : BitVec 1 := Scalar.cmpi .ne v8 c0_i32_3
  v9

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S77x2x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S77x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S77x2x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S2x77x49408 : Shape := ⟨3, ![2, 77, 49408]⟩
abbrev S49408x768 : Shape := ⟨2, ![49408, 768]⟩
abbrev S77x768 : Shape := ⟨2, ![77, 768]⟩
abbrev S77 : Shape := ⟨1, ![77]⟩
abbrev S1x77 : Shape := ⟨2, ![1, 77]⟩
abbrev S2x77x768 : Shape := ⟨3, ![2, 77, 768]⟩
abbrev S_ : Shape := ⟨0, ![]⟩
abbrev S1x77x1 : Shape := ⟨3, ![1, 77, 1]⟩
abbrev S1 : Shape := ⟨1, ![1]⟩
abbrev S1x1x1 : Shape := ⟨3, ![1, 1, 1]⟩
abbrev S1x77x768 : Shape := ⟨3, ![1, 77, 768]⟩

abbrev nBuf : Space → Nat
  | .hbm => 31
  | .vmem => 0
  | .smem => 0
  | _ => 0

abbrev bufTy : (tb : Table) → Fin (tcTables nBuf tb) → BufTy
  | .hbm, ⟨0, _⟩ => ⟨S2x77x49408, .f32⟩
  | .hbm, ⟨1, _⟩ => ⟨S49408x768, .f32⟩
  | .hbm, ⟨2, _⟩ => ⟨S77x768, .f32⟩
  | .hbm, ⟨3, _⟩ => ⟨S77, .i32⟩
  | .hbm, ⟨4, _⟩ => ⟨S1x77, .i32⟩
  | .hbm, ⟨5, _⟩ => ⟨S2x77x768, .f32⟩
  | .hbm, ⟨6, _⟩ => ⟨S_, .i32⟩
  | .hbm, ⟨7, _⟩ => ⟨S1x77, .i32⟩
  | .hbm, ⟨8, _⟩ => ⟨S1x77, .i1⟩
  | .hbm, ⟨9, _⟩ => ⟨S_, .i32⟩
  | .hbm, ⟨10, _⟩ => ⟨S1x77, .i32⟩
  | .hbm, ⟨11, _⟩ => ⟨S1x77, .i32⟩
  | .hbm, ⟨12, _⟩ => ⟨S1x77, .i32⟩
  | .hbm, ⟨13, _⟩ => ⟨S1x77x1, .i32⟩
  | .hbm, ⟨14, _⟩ => ⟨S1, .i32⟩
  | .hbm, ⟨15, _⟩ => ⟨S_, .i32⟩
  | .hbm, ⟨16, _⟩ => ⟨S1x77x1, .i32⟩
  | .hbm, ⟨17, _⟩ => ⟨S1x77x1, .i1⟩
  | .hbm, ⟨18, _⟩ => ⟨S1x1x1, .i32⟩
  | .hbm, ⟨19, _⟩ => ⟨S1x77x1, .i32⟩
  | .hbm, ⟨20, _⟩ => ⟨S1x77x1, .i1⟩
  | .hbm, ⟨21, _⟩ => ⟨S1x77x1, .i1⟩
  | .hbm, ⟨22, _⟩ => ⟨S_, .i1⟩
  | .hbm, ⟨23, _⟩ => ⟨S1x77, .i1⟩
  | .hbm, ⟨24, _⟩ => ⟨S1x77x768, .f32⟩
  | .hbm, ⟨25, _⟩ => ⟨S1x77x768, .i1⟩
  | .hbm, ⟨26, _⟩ => ⟨S_, .f32⟩
  | .hbm, ⟨27, _⟩ => ⟨S1x77x768, .f32⟩
  | .hbm, ⟨28, _⟩ => ⟨S1x77x768, .f32⟩
  | .hbm, ⟨29, _⟩ => ⟨S2x77x768, .f32⟩
  | .hbm, ⟨30, _⟩ => ⟨S2x77x768, .f32⟩
  | _, _ => ⟨S2x77x49408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩

abbrev nD : Nat := 1
abbrev τ : Topo := Topo.v7x

variable {F : FTy → Type} [FloatOps F]
-- ==== Proof.Body.lean ====
/-
  The kernel's body as a Hoare triple, over any float values and at any whole staging buffers: it reads a block of the
  tokens, a block of the weights and the positions, and leaves `stepOut` of them in the result's buffer.
-/
module

public import proofs.«01_k».proof.Proof.Gen.KernelIdeal.Frame
public import proofs.«01_k».proof.Proof.Gen.KernelIdeal.Skeleton
public import Idealize.ShloMosaic.Lib.Pipeline.Value
public import Idealize.ShloMosaic.Lib.Tactic.Stretches

@[expose] public section

set_option maxRecDepth 16384

noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- No variant is used. -/
abbrev 𝒱₀ : Variants := Variants.none

/-- The body's first test: the point's coordinate is 24, the last of the grid. -/
abbrev isLast (i : grid0.Coords) : Prop :=
  Scalar.cmpi .ne (Scalar.extui (Scalar.cmpi .eq (BitVec.ofNat 32 (i 0).val) 24#32) : BitVec 32) 0#32 = 1#1

/-- The product of the two blocks the body forms at a point: cut to the first 256 at the last point, whole elsewhere. -/
def part (i : grid0.Coords) (x : Vec F S77x2x2048 .f32) (w : Vec F S2048x768 .f32) : FVec F S154x768 .f32 :=
  if isLast i then k0_pay1 x w else k0_pay2 x w

/-- What the body leaves in the result's buffer, which held `o`: the product plus the positions at the first point,
    plus `o` at a later one. -/
def stepOut (i : grid0.Coords) (x : Vec F S77x2x2048 .f32) (w : Vec F S2048x768 .f32) (p : Vec F S77x768 .f32)
    (o : Vec F S77x2x768 .f32) : FVec F S77x2x768 .f32 :=
  if k0_cond2 i = 1#1 then k0_pay3 (part i x w) p else k0_pay4 (part i x w) o

theorem zero3 : (![0, 0, 0] : Fin 3 → Nat) = fun _ => 0 := funext fun a => by fin_cases a <;> rfl
theorem zero2 : (![0, 0] : Fin 2 → Nat) = fun _ => 0 := funext fun a => by fin_cases a <;> rfl

/-- A load of the whole of a buffer reads its contents: the tokens' buffer, -/
theorem load_x {M : Memref sig .tc .vmem S77x2x2048 .f32} (h : M.IsWhole) (x : Vec F S77x2x2048 .f32) :
    M.view.readAt (Elt F) (Rect.unit (s := S77x2x2048) ![0, 0, 0] S77x2x2048.size inb_S77x2x2048_S77x2x2048_0_0_0).toLoadRect
      (h.unread x) = x := by
  rw [View.readAt_eq_ld, h.read_unread, View.ld_unit_zero zero3]
/-- the weights', -/
theorem load_w {M : Memref sig .tc .vmem S2048x768 .f32} (h : M.IsWhole) (x : Vec F S2048x768 .f32) :
    M.view.readAt (Elt F) (Rect.unit (s := S2048x768) ![0, 0] S2048x768.size inb_S2048x768_S2048x768_0_0).toLoadRect
      (h.unread x) = x := by
  rw [View.readAt_eq_ld, h.read_unread, View.ld_unit_zero zero2]
/-- the positions', -/
theorem load_p {M : Memref sig .tc .vmem S77x768 .f32} (h : M.IsWhole) (x : Vec F S77x768 .f32) :
    M.view.readAt (Elt F) (Rect.unit (s := S77x768) ![0, 0] S77x768.size inb_S77x768_S77x768_0_0).toLoadRect
      (h.unread x) = x := by
  rw [View.readAt_eq_ld, h.read_unread, View.ld_unit_zero zero2]
/-- the result's. -/
theorem load_o {M : Memref sig .tc .vmem S77x2x768 .f32} (h : M.IsWhole) (x : Vec F S77x2x768 .f32) :
    M.view.readAt (Elt F) (Rect.unit (s := S77x2x768) ![0, 0, 0] S77x2x768.size inb_S77x2x768_S77x2x768_0_0_0).toLoadRect
      (h.unread x) = x := by
  rw [View.readAt_eq_ld, h.read_unread, View.ld_unit_zero zero3]
/-- One store to the whole of the result's buffer leaves the stored value. -/
theorem read_store (M : Memref sig .tc .vmem S77x2x768 .f32) (f : M.view.ty.Contents (Elt F)) (v : FVec F S77x2x768 .f32) :
    M.view.read (Elt F) (M.view.writes (Elt F) f
      [⟨Rect.unit (s := S77x2x768) ![0, 0, 0] S77x2x768.size inb_S77x2x768_S77x2x768_0_0_0, v⟩]) = v := by
  rw [View.read_writes_eq_canon _ _ _ (fun y => ⟨_, List.mem_singleton_self _, View.mem_set_unit_zero zero3 inb_S77x2x768_S77x2x768_0_0_0 y⟩),
    View.canon_unit_zero zero3]

set_option maxHeartbeats 2000000 in
/-- The body's triple: on whole staging buffers holding `x`, `w`, `p` and `o` it runs to the end, the first three as
    they were and the result's at `stepOut`. The body's two later tests are each other's negation (`h`). -/
theorem sound_body (c : Dev nD) (E : Set ℕ) (i : grid0.Coords)
    (M1 : Memref sig .tc .vmem S77x2x2048 .f32) (h1 : M1.IsWhole) (M2 : Memref sig .tc .vmem S2048x768 .f32) (h2 : M2.IsWhole)
    (M3 : Memref sig .tc .vmem S77x768 .f32) (h3 : M3.IsWhole) (M4 : Memref sig .tc .vmem S77x2x768 .f32) (h4 : M4.IsWhole)
    (x : Vec F S77x2x2048 .f32) (w : Vec F S2048x768 .f32) (p : Vec F S77x768 .f32) (o : Vec F S77x2x768 .f32)
    (h : k0_cond3 i = 1#1 ↔ ¬ k0_cond2 i = 1#1) (K : PUnit → sProp 𝕄) :
    iprop(owns (c : Thread nD τ) M1 fullShare x ∗ owns (c : Thread nD τ) M2 fullShare w
          ∗ owns (c : Thread nD τ) M3 fullShare p ∗ owns (c : Thread nD τ) M4 fullShare o
          ∗ (iprop(owns (c : Thread nD τ) M1 fullShare x ∗ owns (c : Thread nD τ) M2 fullShare w
              ∗ owns (c : Thread nD τ) M3 fullShare p ∗ owns (c : Thread nD τ) M4 fullShare (stepOut i x w p o)) -∗ K ⟨⟩))
      ⊢ wp frame (wpE (defs₀ (F := F)) 𝒱₀ c none) E (cc0__body i M1 h1 M2 h2 M3 h3 M4 h4) K := by
  unfold owns
  iintro ⟨⟨%f1, %hf1, H1⟩, ⟨%f2, %hf2, H2⟩, ⟨%f3, %hf3, H3⟩, ⟨%f4, %hf4, H4⟩, Hk⟩
  obtain rfl := h1.eq_unread hf1
  obtain rfl := h2.eq_unread hf2
  obtain rfl := h3.eq_unread hf3
  obtain rfl := h4.eq_unread hf4
  simp only [cc0__body_eq_skeleton]; unfold cc0__body_skel
  unfold stepOut part
  by_cases hl : isLast i <;> by_cases hc : k0_cond2 i = 1#1
  all_goals
    first
      | have h3' : ¬ k0_cond3 i = 1#1 := fun e => h.mp e hc
      | have h3' : k0_cond3 i = 1#1 := h.mpr hc
    sl_exec!
    sl_step
    iapply Hk
    first | rw [if_pos hc] | rw [if_neg hc]
    first | rw [if_pos hl] | rw [if_neg hl]
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    iexists _; isplitr; swap; · iexact H4
    ipureintro
    sl_open_run
    refine (read_store M4 _ _).trans ?_
    first
      | exact congrArg₂ k0_pay3 (congrArg₂ _ (load_x h1 x) (load_w h2 w)) (load_p h3 p)
      | exact congrArg₂ k0_pay4 (congrArg₂ _ (load_x h1 x) (load_w h2 w)) (load_o h4 o)

end Cert.KernelIdeal.Body

end
-- ==== Proof.Mask.lean ====
/-
  The two array operations inside one block's product, read at an index, over any float values: the 77 by 2 leading
  axes folded into 154 rows, and the test that keeps the first 256 positions of the contracted axis. The cut product
  of two blocks therefore depends on those positions alone.
-/
module

public import proofs.«01_k».proof.Proof.Gen.KernelIdeal.Skeleton
public import Idealize.ShloMosaic.Lib.Pipeline.Value
public import Idealize.ShloMosaic.Lib.ValueIdxCore
public import Idealize.ShloMosaic.Lib.WordCmp

@[expose] public section

set_option maxRecDepth 16384

noncomputable section

namespace Cert.KernelIdeal.Body

open Cert.KernelIdeal Cert.KernelIdeal.Gen
open Idealize.ShloMosaic Idealize.ShloMosaic.ValueIdx

/-- A select on "the coordinate on axis `d` is below 256" is that `if`, on an axis of at most 2048 positions. -/
theorem keep_apply {α : Type} {s : Shape} (d : Fin s.rank) (hs : s.size d ≤ 2048) (h : s.Iotas .tc 32 [d])
    (a b : s.Idx → α) (i : s.Idx) :
    select (cmpi .slt (iota .tc s 32 [d] h) (broadcast s 256#32)) a b i = if (i d).val < 256 then a i else b i := by
  have hi : (i d).val < 2048 := Nat.lt_of_lt_of_le (i d).isLt hs
  show Scalar.select (IntOp.cmpi .slt (iota .tc s 32 [d] h i) (BitVec.ofNat 32 256)) (a i) (b i) = _
  rw [iota_single_apply]
  by_cases hk : (i d).val < 256
  · rw [if_pos hk, WordCmp.select_of_eq_one ((WordCmp.cmpi_slt_ofNat_eq_one_iff (by omega) (by omega)).mpr hk)]
  · rw [if_neg hk, WordCmp.select_of_eq_zero ((WordCmp.cmpi_slt_ofNat_eq_zero_iff (by omega) (by omega)).mpr hk)]

/-- Row `r` of the folded block is position `r / 2`, batch `r % 2` of the block. -/
abbrev unfold154 {n : Nat} (r : Fin 154) (k : Fin n) : (⟨3, ![77, 2, n]⟩ : Shape).Idx :=
  ix3 (⟨r.val / 2, by omega⟩ : Fin 77) (⟨r.val % 2, by omega⟩ : Fin 2) k

/-- The block with its two leading axes folded, read at row `r` and column `k`. -/
theorem fold_apply {α : Type} (x : S77x2x2048.Idx → α) (h : S77x2x2048.ShapeCasts S77x2x2048) (h' : S77x2x2048.ShapeCasts S154x2048)
    (r : Fin 154) (k : Fin 2048) :
    shapeCast S154x2048 (shapeCast S77x2x2048 x h) h' (ix2 r k) = x (unfold154 r k) := by
  rw [shapeCast_self]
  refine shapeCast_apply x h' (ix2 r k) (unfold154 r k) ?_
  rw [Shape.rowMajor_val_three, Shape.rowMajor_val_two]
  show (r.val / 2 * 2 + r.val % 2) * 2048 + k.val = r.val * 2048 + k.val
  omega

variable {F : FTy → Type} [FloatOps F]

/-- The cut product reads neither a column of the first block nor a row of the second from the 256th on. -/
theorem cut_congr {x x' : Vec F S77x2x2048 .f32} {w w' : Vec F S2048x768 .f32}
    (hx : ∀ (p : Fin 77) (b : Fin 2) (k : Fin 2048), k.val < 256 → x (ix3 p b k) = x' (ix3 p b k))
    (hw : ∀ (k : Fin 2048) (d : Fin 768), k.val < 256 → w (ix2 k d) = w' (ix2 k d)) :
    k0_pay1 x w = k0_pay1 x' w' := by
  have ex : ∀ (o : FVec F S154x2048 .f32),
      select (cmpi .slt (iota .tc S154x2048 32 [1] iota_S154x2048_d1_w32) (broadcast S154x2048 256#32))
        (shapeCast S154x2048 (shapeCast S77x2x2048 x shapeCasts_S77x2x2048_S77x2x2048) shapeCasts_S77x2x2048_S154x2048) o
      = select (cmpi .slt (iota .tc S154x2048 32 [1] iota_S154x2048_d1_w32) (broadcast S154x2048 256#32))
        (shapeCast S154x2048 (shapeCast S77x2x2048 x' shapeCasts_S77x2x2048_S77x2x2048) shapeCasts_S77x2x2048_S154x2048) o := by
    intro o; funext j
    obtain ⟨r, k, rfl⟩ : ∃ (r : Fin 154) (k : Fin 2048), j = ix2 r k := ⟨_, _, eq_ix2 j⟩
    rw [keep_apply (s := S154x2048) 1 (Nat.le_refl _), keep_apply (s := S154x2048) 1 (Nat.le_refl _)]
    by_cases hk : k.val < 256
    · rw [if_pos hk, if_pos hk, fold_apply, fold_apply]; exact hx _ _ _ hk
    · rw [if_neg hk, if_neg hk]
  have ew : ∀ (o : FVec F S2048x768 .f32),
      select (cmpi .slt (iota .tc S2048x768 32 [0] iota_S2048x768_d0_w32) (broadcast S2048x768 256#32)) w o
      = select (cmpi .slt (iota .tc S2048x768 32 [0] iota_S2048x768_d0_w32) (broadcast S2048x768 256#32)) w' o := by
    intro o; funext j
    obtain ⟨k, d, rfl⟩ : ∃ (k : Fin 2048) (d : Fin 768), j = ix2 k d := ⟨_, _, eq_ix2 j⟩
    rw [keep_apply (s := S2048x768) 0 (Nat.le_refl _), keep_apply (s := S2048x768) 0 (Nat.le_refl _)]
    by_cases hk : k.val < 256
    · rw [if_pos hk, if_pos hk]; exact hw _ _ hk
    · rw [if_neg hk, if_neg hk]
  unfold k0_pay1
  simp only [ex, ew]

end Cert.KernelIdeal.Body

end
-- ==== Proof.Run.lean ====
/-
  The kernel's run, over any float values: what the staging buffers hold after each point of the grid, the body's
  obligation there, and the run of the whole program. The last point's two blocks overhang their arrays; what the
  buffers hold past the arrays' ends is not known and does not matter, since the body cuts both blocks there.
-/
module

public import proofs.«01_k».proof.Proof.Body
public import proofs.«01_k».proof.Proof.Mask

@[expose] public section

set_option maxRecDepth 16384

noncomputable section

namespace Cert.KernelIdeal.Body

open Cert.KernelIdeal Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The grid: which point is first, which is last, where the blocks are cut -/

/-- The body's first test holds at point 24 alone, -/
theorem isLast_iff : ∀ t : Fin cfg0.N, isLast (grid0.coords t) ↔ t.val = 24 :=
  (by decide +kernel : ∀ t : Fin grid0.N, isLast (grid0.coords t) ↔ t.val = 24)
/-- its second at point 0 alone, -/
theorem first_iff : ∀ t : Fin cfg0.N, k0_cond2 (grid0.coords t) = 1#1 ↔ t.val = 0 :=
  (by decide +kernel : ∀ t : Fin grid0.N, k0_cond2 (grid0.coords t) = 1#1 ↔ t.val = 0)
/-- and its third at every other point. -/
theorem later_iff : ∀ t : Fin cfg0.N, k0_cond3 (grid0.coords t) = 1#1 ↔ ¬ k0_cond2 (grid0.coords t) = 1#1 :=
  (by decide +kernel : ∀ t : Fin grid0.N, k0_cond3 (grid0.coords t) = 1#1 ↔ ¬ k0_cond2 (grid0.coords t) = 1#1)
/-- The result's buffer is stored to at every point, the second or the third test holding there. -/
theorem live_3 : ∀ i : cfg0.grid.Coords, cfg0.idle 3 i = false :=
  (by decide +kernel : ∀ i : grid0.Coords, cfg0.idle 3 i = false)
/-- The tokens' block has all its 2048 columns inside the array but at point 24, where it has 256; -/
theorem xsize0 : ∀ t : Fin cfg0.N, win0_0.xsize (grid0.coords t) 0 = 77 ∧ win0_0.xsize (grid0.coords t) 1 = 2
    ∧ win0_0.xsize (grid0.coords t) 2 = if t.val = 24 then 256 else 2048 :=
  (by decide +kernel : ∀ t : Fin grid0.N, win0_0.xsize (grid0.coords t) 0 = 77 ∧ win0_0.xsize (grid0.coords t) 1 = 2
    ∧ win0_0.xsize (grid0.coords t) 2 = if t.val = 24 then 256 else 2048)
/-- the weights' block likewise its rows. -/
theorem xsize1 : ∀ t : Fin cfg0.N, win0_1.xsize (grid0.coords t) 0 = (if t.val = 24 then 256 else 2048)
    ∧ win0_1.xsize (grid0.coords t) 1 = 768 :=
  (by decide +kernel : ∀ t : Fin grid0.N, win0_1.xsize (grid0.coords t) 0 = (if t.val = 24 then 256 else 2048)
    ∧ win0_1.xsize (grid0.coords t) 1 = 768)

/-- Column `k` of point `t`'s tokens' block is inside the array: at point 24 when it is below 256, else always. -/
theorem moved0 (t : Fin cfg0.N) (p : Fin 77) (b : Fin 2) (k : Fin 2048) (h : t.val = 24 → k.val < 256) :
    win0_0.moved (grid0.coords t) (ix3 p b k) = true := by
  obtain ⟨e0, e1, e2⟩ := xsize0 t
  refine (win0_0.moved_iff _ _).mpr fun a => ?_
  match a with
  | ⟨0, _⟩ => show p.val < win0_0.xsize (grid0.coords t) 0; rw [e0]; exact p.isLt
  | ⟨1, _⟩ => show b.val < win0_0.xsize (grid0.coords t) 1; rw [e1]; exact b.isLt
  | ⟨2, _⟩ =>
    show k.val < win0_0.xsize (grid0.coords t) 2; rw [e2]
    have := k.isLt
    split
    · exact h ‹_›
    · exact this
/-- Row `k` of point `t`'s weights' block likewise. -/
theorem moved1 (t : Fin cfg0.N) (k : Fin 2048) (d : Fin 768) (h : t.val = 24 → k.val < 256) :
    win0_1.moved (grid0.coords t) (ix2 k d) = true := by
  obtain ⟨e0, e1⟩ := xsize1 t
  refine (win0_1.moved_iff _ _).mpr fun a => ?_
  match a with
  | ⟨0, _⟩ =>
    show k.val < win0_1.xsize (grid0.coords t) 0; rw [e0]
    have := k.isLt
    split
    · exact h ‹_›
    · exact this
  | ⟨1, _⟩ => show d.val < win0_1.xsize (grid0.coords t) 1; rw [e1]; exact d.isLt

/-! ## What fills the blocks past the arrays' ends does not matter -/

/-- A block read where its transfer moves it is the same whatever fills the rest. -/
theorem fill_eq {G : Pipeline.Grid} {sig' : RefSig} (w : Window sig' G) {α : Type} (i : G.Coords) (d d' : w.block.Idx → α)
    (g : (w.xblock i).Idx → α) {j : w.block.Idx} (h : w.moved i j = true) : w.fill i d g j = w.fill i d' g j := by
  unfold Window.fill; rw [dif_pos h, dif_pos h]

/-- The product of two blocks is the same whatever fills the two buffers past the arrays' ends. -/
theorem part_fill (t : Fin cfg0.N) (d d' : S77x2x2048.Idx → Elt F .f32) (g : (win0_0.xblock (grid0.coords t)).Idx → Elt F .f32)
    (e e' : S2048x768.Idx → Elt F .f32) (f : (win0_1.xblock (grid0.coords t)).Idx → Elt F .f32) :
    part (grid0.coords t) (win0_0.fill (grid0.coords t) d g) (win0_1.fill (grid0.coords t) e f)
      = part (grid0.coords t) (win0_0.fill (grid0.coords t) d' g) (win0_1.fill (grid0.coords t) e' f) := by
  unfold part
  by_cases ht : t.val = 24
  · rw [if_pos ((isLast_iff t).mpr ht), if_pos ((isLast_iff t).mpr ht)]
    exact cut_congr (fun p b k hk => fill_eq win0_0 _ d d' g (moved0 t p b k fun _ => hk))
      (fun k dd hk => fill_eq win0_1 _ e e' f (moved1 t k dd fun _ => hk))
  · rw [if_neg fun h => ht ((isLast_iff t).mp h), if_neg fun h => ht ((isLast_iff t).mp h)]
    refine congrArg₂ k0_pay2 (funext fun j => ?_) (funext fun j => ?_)
    · obtain ⟨p, b, k, rfl⟩ : ∃ (p : Fin 77) (b : Fin 2) (k : Fin 2048), j = ix3 p b k := ⟨_, _, _, eq_ix3 j⟩
      exact fill_eq win0_0 _ d d' g (moved0 t p b k fun h => absurd h ht)
    · obtain ⟨k, dd, rfl⟩ : ∃ (k : Fin 2048) (dd : Fin 768), j = ix2 k dd := ⟨_, _, eq_ix2 j⟩
      exact fill_eq win0_1 _ e e' f (moved1 t k dd fun h => absurd h ht)

/-! ## The proof data -/

variable (m : (ℓ : Loc nD τ sig) → Buf (Elt F) ℓ) (ρ : Dev nD → PrngReg)

/-- The tokens' block at point `t`, zeros past the array's end. -/
def xblk (c : Dev nD) (t : Fin cfg0.N) : Vec F S77x2x2048 .f32 :=
  win0_0.fill (grid0.coords t) (fun _ => Scalar.ofBits .f32 0#32) (iblk m c 0 t)
/-- The weights' block at point `t`, zeros past the array's end. -/
def wblk (c : Dev nD) (t : Fin cfg0.N) : Vec F S2048x768 .f32 :=
  win0_1.fill (grid0.coords t) (fun _ => Scalar.ofBits .f32 0#32) (iblk m c 1 t)
/-- The positions: the whole array at every point. -/
def pblk (c : Dev nD) (t : Fin cfg0.N) : Vec F S77x768 .f32 := iblk m c 2 t

/-- What the result's buffer holds after the first `n` points. -/
def acc (c : Dev nD) : ℕ → FVec F S77x2x768 .f32
  | 0 => fun _ => Scalar.ofBits .f32 0#32
  | n + 1 => if h : n < cfg0.N then
      stepOut (grid0.coords ⟨n, h⟩) (xblk m c ⟨n, h⟩) (wblk m c ⟨n, h⟩) (pblk m c ⟨n, h⟩) (acc c n)
    else acc c n

/-- One point's step of it. -/
theorem acc_succ (c : Dev nD) (t : Fin cfg0.N) :
    acc m c (t.val + 1) = stepOut (grid0.coords t) (xblk m c t) (wblk m c t) (pblk m c t) (acc m c t.val) := by
  rw [acc, dif_pos t.isLt]

/-- The pipeline's proof data: the arrays as the region finds them; after the body at a point the inputs' buffers at
    their blocks and the result's at `acc`. -/
def dats (_ : Fin 1) (c : Dev nD) : Dat τ (Elt F) Unit ℕ (UR sig nD τ) ℕ cfg0 c where
  A w := V m c (Pipeline.arrRef spec0 w)
  after w t := match w with
    | ⟨0, _⟩ => xblk m c t
    | ⟨1, _⟩ => wblk m c t
    | ⟨2, _⟩ => pblk m c t
    | ⟨3, _⟩ => acc m c (t.val + 1)
  Φ _ := Pipeline.ΦA spec0 c
  q _ := fullShare
  owed _ := 0

theorem A_eq (c : Dev nD) (w : Fin cfg0.W) : (dats m 0 c).A w = V m c (Pipeline.arrRef spec0 w) := rfl
theorem after0_2 (c : Dev nD) (t : Fin cfg0.N) : (dats m 0 c).after 2 t = iblk m c 2 t := by dsimp only [dats]; rfl
theorem after0_3 (c : Dev nD) (t : Fin cfg0.N) : (dats m 0 c).after 3 t = acc m c (t.val + 1) := by dsimp only [dats]

/-- When the body runs the tokens' buffer holds its block, anything past the array's end; -/
theorem before0_0 (c : Dev nD) (t : Fin cfg0.N) (d) :
    (dats m 0 c).before 0 t d = win0_0.fill (grid0.coords t) d (iblk m c 0 t) := by
  unfold Dat.before; rw [if_pos (fetch0_0 t)]; rfl
/-- the weights' likewise; -/
theorem before0_1 (c : Dev nD) (t : Fin cfg0.N) (d) :
    (dats m 0 c).before 1 t d = win0_1.fill (grid0.coords t) d (iblk m c 1 t) := by
  unfold Dat.before; rw [if_pos (fetch0_1 t)]; rfl
/-- the positions' holds the positions. -/
theorem before0_2 (c : Dev nD) (t : Fin cfg0.N) (d) : (dats m 0 c).before 2 t d = pblk m c t :=
  before0_2_of m (dats m 0 c) (A_eq m c 2) (after0_2 m c) t d
/-- What the body leaves in the result's buffer is `acc`'s next value, whatever filled the blocks and, at the first
    point, whatever the buffer held. -/
theorem step_eq (c : Dev nD) (t : Fin cfg0.N) (d : S77x2x2048.Idx → Elt F .f32) (e : S2048x768.Idx → Elt F .f32)
    (o : FVec F S77x2x768 .f32) (ho : t.val ≠ 0 → o = acc m c t.val) :
    stepOut (grid0.coords t) (win0_0.fill (grid0.coords t) d (iblk m c 0 t)) (win0_1.fill (grid0.coords t) e (iblk m c 1 t))
      (pblk m c t) o = acc m c (t.val + 1) := by
  rw [acc_succ]
  have hp : part (grid0.coords t) (win0_0.fill (grid0.coords t) d (iblk m c 0 t)) (win0_1.fill (grid0.coords t) e (iblk m c 1 t))
      = part (grid0.coords t) (xblk m c t) (wblk m c t) := part_fill t d _ (iblk m c 0 t) e _ (iblk m c 1 t)
  unfold stepOut
  rw [hp]
  by_cases ht : t.val = 0
  · rw [if_pos ((first_iff t).mpr ht), if_pos ((first_iff t).mpr ht)]
  · rw [if_neg fun h => ht ((first_iff t).mp h), if_neg fun h => ht ((first_iff t).mp h), ho ht]
/-- The result's buffer holds, from the second point on, what the point before left. -/
theorem before0_3 (c : Dev nD) (t : Fin cfg0.N) (d) (ht : t.val ≠ 0) : (dats m 0 c).before 3 t d = acc m c t.val := by
  have hk := (dats m 0 c).before_out_kept 3 rfl t ht
    (Bool.eq_false_iff.mpr fun hf => by
      have h25 : t.val < 25 := t.isLt
      have h24 : (t.val - 1) % 25 = 24 := (flush0_3 ⟨t.val - 1, by omega⟩).mp hf
      omega)
    live_3 (fun _ _ => rfl) d
  rw [hk, after0_3]
  exact congrArg (acc m c) (Nat.sub_add_cancel (Nat.pos_of_ne_zero ht))

/-! ## The body obligation and the run -/

/-- The table's row for the kernel's body is the body at the point. -/
theorem defs₀_row (t : Fin cfg0.N) : defs₀ (F := F) .tc cfg0.body (cfg0.bodyArgs t (cfg0.slots t)) = Gen.bodyAt0 t := by
  unfold defs₀; rw [Defs.onTc_tc]

/-- The body meets the pipeline's obligation at every point: the two overhanging inputs are handed back on the part
    inside the arrays, the positions as they were and the result at `acc`. -/
theorem body_obligation (c : Dev nD) : BodyObligationLoose (dats (F := F) m 0 c) (defs₀ (F := F)) 𝒱₀ () Set.univ := fun t => by
  rw [bigSep_W0, bigSep_W0, defs₀_row]
  simp only
  rw [show idle0 3 (grid0.coords t) = false from live_3 _, show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before0_0 m c t d0, before0_1 m c t d1, before0_2 m c t d2]
  iapply (sound_body (F := F) c Set.univ (grid0.coords t) _ _ _ _ _ _ _ _
    (win0_0.fill (grid0.coords t) d0 (iblk m c 0 t)) (win0_1.fill (grid0.coords t) d1 (iblk m c 1 t)) (pblk m c t)
    ((dats m 0 c).before 3 t d3) (later_iff t) _)
  isplitl [H0]; · iexact H0
  isplitl [H1]; · iexact H1
  isplitl [H2]; · iexact H2
  isplitl [H3]; · iexact H3
  iintro ⟨H0, H1, H2, H3⟩
  rw [step_eq m c t d0 d1 _ (before0_3 m c t d3)]
  isplitl [HΦ]; · iexact HΦ
  isplitl [Ho]; · iexact Ho
  have hx : win0_0.cut (grid0.coords t) (xblk m c t) = iblk m c 0 t := win0_0.cut_fill _ _ _
  have hw : win0_1.cut (grid0.coords t) (wblk m c t) = iblk m c 1 t := win0_1.cut_fill _ _ _
  isplitl [H0]
  · iexists d0
    change _ ⊢ owns (c : Thread nD τ) (stage0_0 (cfg0.slots t 0)) fullShare
      (win0_0.fill (grid0.coords t) d0 (win0_0.cut (grid0.coords t) (xblk m c t)))
    rw [hx]
  isplitl [H1]
  · iexists d1
    change _ ⊢ owns (c : Thread nD τ) (stage0_1 (cfg0.slots t 1)) fullShare
      (win0_1.fill (grid0.coords t) d1 (win0_1.cut (grid0.coords t) (wblk m c t)))
    rw [hw]
  isplitl [H2]
  · iexact H2
  iexact H3

set_option backward.isDefEq.respectTransparency.types false in
/-- From any memory with zero counters every weakly fair execution of the program terminates without a fault, with every
    array of the pipeline at what the proof data say, the host's buffers at what the lines after the pipeline leave
    in them, and every semaphore counter at zero. -/
theorem run_main : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ 𝒱₀ m ρ main
    (hbody := body_obligation m) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := fun _ _ => rfl) (hΦ := fun _ _ => rfl)

/-- The run leaves the three arguments as it found them and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_with_sems (frame_of m ρ (dats m) fun _ _ => rfl) (run_main m ρ)

end Cert.KernelIdeal.Body

end
-- ==== Proof.Block.lean ====
/-
  What the body computes at one point, over the extended reals: the product of two blocks is the sum over the
  contracted axis of the products, cut to the first 256 at the last point; the first point adds the positions to it,
  a later one what the result's buffer held.
-/
module

public import proofs.«01_k».proof.Proof.Body
public import proofs.«01_k».proof.Proof.Mask
public import Idealize.ShloMosaic.Lib.MatmulPlain
public import Idealize.ShloMosaic.Lib.ValueIdx

@[expose] public section

set_option maxRecDepth 16384

noncomputable section

namespace Cert.KernelIdeal.Body

open Cert.KernelIdeal Cert.KernelIdeal.Gen
open Idealize.ShloMosaic Idealize.ShloMosaic.ValueIdx
open scoped BigOperators

/-- The body's matrix product read at row `r` and column `d`: the sum over the contracted axis. -/
theorem product_apply (l : FVec Ideal S154x2048 .bf16) (w : FVec Ideal S2048x768 .bf16) (r : Fin 154) (d : Fin 768) :
    (matmul dot_S154x2048_S2048x768_S154x768_1_0_0_1_n_n none l w (constant S154x768 .f32 0x00000000#32) :
      FVec Ideal S154x768 .f32) (ix2 r d) = ∑ k : Fin 2048, l (ix2 r k) * w (ix2 k d) := by
  refine (Ideal.matmul_plain_apply (M := 154) (K := 2048) (N := 768) none l w (constant S154x768 .f32 0x00000000#32) r d).trans ?_
  rw [constant_apply, Ideal.ofBits_zero_f32, zero_add]

/-- The uncut product of two blocks. -/
theorem whole_apply (x : Vec Ideal S77x2x2048 .f32) (w : Vec Ideal S2048x768 .f32) (r : Fin 154) (d : Fin 768) :
    k0_pay2 x w (ix2 r d) = ∑ k : Fin 2048, (x (unfold154 r k) : EReal) * w (ix2 k d) := by
  unfold k0_pay2
  refine (product_apply _ _ r d).trans (Finset.sum_congr rfl fun k _ => ?_)
  rw [truncf_apply, truncf_apply, fold_apply]

/-- The cut product of two blocks: the first 256 terms. -/
theorem cut_apply (x : Vec Ideal S77x2x2048 .f32) (w : Vec Ideal S2048x768 .f32) (r : Fin 154) (d : Fin 768) :
    k0_pay1 x w (ix2 r d)
      = ∑ k : Fin 2048, if k.val < 256 then (x (unfold154 r k) : EReal) * w (ix2 k d) else 0 := by
  unfold k0_pay1
  refine (product_apply _ _ r d).trans (Finset.sum_congr rfl fun k _ => ?_)
  rw [truncf_apply, truncf_apply, keep_apply (s := S154x2048) 1 (Nat.le_refl _),
    keep_apply (s := S2048x768) 0 (Nat.le_refl _), fold_apply]
  show (if k.val < 256 then _ else _) * (if k.val < 256 then _ else _) = _
  by_cases hk : k.val < 256
  · rw [if_pos hk, if_pos hk, if_pos hk]
  · rw [if_neg hk, if_neg hk, if_neg hk]
    show Ideal.ofBits .f32 0x00000000#32 * _ = 0
    rw [Ideal.ofBits_zero_f32, zero_mul]

/-- The folded row of position `p`, batch `b`. -/
abbrev row154 (p : Fin 77) (b : Fin 2) : Fin 154 := ⟨p.val * 2 + b.val, by omega⟩

/-- The product with its rows unfolded, read at position `p`, batch `b` and column `d`. -/
theorem spread_apply (v : FVec Ideal S154x768 .f32) (h : S154x768.ShapeCasts S77x2x768) (p : Fin 77) (b : Fin 2) (d : Fin 768) :
    shapeCast S77x2x768 v h (ix3 p b d) = v (ix2 (row154 p b) d) := by
  refine shapeCast_apply v h (ix3 p b d) (ix2 (row154 p b) d) ?_
  rw [Shape.rowMajor_val_three, Shape.rowMajor_val_two]
  rfl

/-- The first point's store: the product plus the positions, the same for either batch. -/
theorem first_apply (v : FVec Ideal S154x768 .f32) (q : Vec Ideal S77x768 .f32) (p : Fin 77) (b : Fin 2) (d : Fin 768) :
    k0_pay3 v q (ix3 p b d) = (v (ix2 (row154 p b) d) + q (ix2 p d) : EReal) := by
  unfold k0_pay3
  refine (addf_apply _ _ _).trans (congrArg₂ (· + ·) (spread_apply v _ p b d) ?_)
  rw [shapeCast_self]
  refine (broadcastTo_apply _ broadcasts_S77x1x768_S77x2x768 (ix3 p b d) (ix3 p (0 : Fin 1) d) fun a => ?_).trans ?_
  · match a with
    | ⟨0, _⟩ => rfl
    | ⟨1, _⟩ => rfl
    | ⟨2, _⟩ => rfl
  · refine shapeCast_apply q shapeCasts_S77x768_S77x1x768 (ix3 p (0 : Fin 1) d) (ix2 p d) ?_
    rw [Shape.rowMajor_val_three, Shape.rowMajor_val_two]
    show p.val * 768 + d.val = (p.val * 1 + 0) * 768 + d.val
    omega

/-- A later point's store: what the buffer held plus the product. -/
theorem later_apply (v : FVec Ideal S154x768 .f32) (o : Vec Ideal S77x2x768 .f32) (p : Fin 77) (b : Fin 2) (d : Fin 768) :
    k0_pay4 v o (ix3 p b d) = (o (ix3 p b d) + v (ix2 (row154 p b) d) : EReal) := by
  unfold k0_pay4
  refine (addf_apply _ _ _).trans (congrArg₂ (· + ·) ?_ (spread_apply v _ p b d))
  rw [shapeCast_self]

/-- The row of position `p`, batch `b` is unfolded to that position and batch. -/
theorem unfold_row (p : Fin 77) (b : Fin 2) (k : Fin 2048) : unfold154 (row154 p b) k = ix3 p b k := by
  funext a
  match a with
  | ⟨0, _⟩ => exact Fin.ext (show (p.val * 2 + b.val) / 2 = p.val by omega)
  | ⟨1, _⟩ => exact Fin.ext (show (p.val * 2 + b.val) % 2 = b.val by omega)
  | ⟨2, _⟩ => rfl

end Cert.KernelIdeal.Body

end
-- ==== Proof.Array.lean ====
/-
  What the arrays hold, over the extended reals: the blocks a point reads, as entries of the arguments; the result's
  buffer after each point, as a partial sum over the vocabulary plus the positions; the program's result.
-/
module

public import proofs.«01_k».proof.Proof.Run
public import proofs.«01_k».proof.Proof.Block
public import Idealize.ShloMosaic.Lib.Pipeline.ValueKit
public import Idealize.ShloMosaic.Lib.Claim

@[expose] public section

set_option maxRecDepth 16384

noncomputable section

namespace Cert.KernelIdeal.Body

open Cert.KernelIdeal Cert.KernelIdeal.Gen
open Idealize.ShloMosaic hiding ix2 ix3
open Idealize.ShloMosaic.TcCoe Idealize.ShloMosaic.ValueIdx
open Idealize.SL.Sem
open Idealize.ShloMosaic.Pipeline (Dat Cfg Window)
open scoped BigOperators

variable (m : (ℓ : Loc nD τ sig) → Buf (Elt Ideal) ℓ) (c : Dev nD)

/-! ## The arguments -/

/-- The tokens, -/
abbrev tokens : FVec Ideal S2x77x49408 .f32 := m ((c : Thread nD τ).loc main_arg0)
/-- the weights -/
abbrev weights : FVec Ideal S49408x768 .f32 := m ((c : Thread nD τ).loc main_arg1)
/-- and the positions. -/
abbrev positions : FVec Ideal S77x768 .f32 := m ((c : Thread nD τ).loc main_arg2)

/-- The pipeline's first array is the tokens with their first two axes exchanged. -/
theorem V_tokens : (V m c main_call0_v0 : FVec Ideal S77x2x49408 .f32)
    = transpose S77x2x49408 [1, 0, 2] (tokens m c) transposes_S2x77x49408_S77x2x49408_1_0_2 := by
  entry_read
  rfl

/-! ## The blocks -/

/-- Point `t`'s tokens' block starts at column `2048 * t`, -/
theorem index0 : ∀ t : Fin cfg0.N, win0_0.index t = ![0, 0, t.val] :=
  (by decide +kernel : ∀ t : Fin grid0.N, win0_0.index t = ![0, 0, t.val])
/-- its weights' block at row `2048 * t`, -/
theorem index1 : ∀ t : Fin cfg0.N, win0_1.index t = ![t.val, 0] :=
  (by decide +kernel : ∀ t : Fin grid0.N, win0_1.index t = ![t.val, 0])
/-- and its positions' block is the whole array. -/
theorem index2 : ∀ t : Fin cfg0.N, win0_2.index t = ![0, 0] :=
  (by decide +kernel : ∀ t : Fin grid0.N, win0_2.index t = ![0, 0])

/-- Column `k` of the tokens' block at point `t`, where it is inside the array. -/
theorem xblk_apply (t : Fin cfg0.N) (p : Fin 77) (b : Fin 2) (k : Fin 2048) (h : t.val = 24 → k.val < 256)
    (hk : 2048 * t.val + k.val < 49408) :
    (xblk m c t (ix3 p b k) : EReal) = tokens m c (ix3 b p ⟨2048 * t.val + k.val, hk⟩) := by
  unfold xblk Window.fill
  rw [dif_pos (moved0 t p b k h)]
  blk_simp [iblk]
  rw [V_tokens]
  refine transpose_apply _ _ _ _ _ fun a => ?_
  match a with
  | ⟨0, _⟩ => blk_simp [index0]; rfl
  | ⟨1, _⟩ => blk_simp [index0]; rfl
  | ⟨2, _⟩ =>
    blk_simp [index0]
    show 2048 * t.val + k.val = t.val * 2048 + k.val
    omega

/-- Row `k` of the weights' block at point `t`, where it is inside the array. -/
theorem wblk_apply (t : Fin cfg0.N) (k : Fin 2048) (d : Fin 768) (h : t.val = 24 → k.val < 256)
    (hk : 2048 * t.val + k.val < 49408) :
    (wblk m c t (ix2 k d) : EReal) = weights m c (ix2 ⟨2048 * t.val + k.val, hk⟩ d) := by
  unfold wblk Window.fill
  rw [dif_pos (moved1 t k d h)]
  blk_simp [iblk]
  rw [V_main_arg1]
  refine congrArg (weights m c) ?_
  blk_ext [index1]
  show t.val * 2048 + k.val = 2048 * t.val + k.val
  omega

/-- The positions' block. -/
theorem pblk_apply (t : Fin cfg0.N) (p : Fin 77) (d : Fin 768) :
    (pblk m c t (ix2 p d) : EReal) = positions m c (ix2 p d) := by
  unfold pblk
  blk_simp [iblk]
  rw [V_main_arg2]
  refine congrArg (positions m c) ?_
  blk_ext [index2]

/-! ## The result's buffer after each point -/

/-- The product of entry (b, p, j) of the tokens and entry (j, d) of the weights, and zero past the vocabulary's end. -/
def term (p : Fin 77) (b : Fin 2) (d : Fin 768) (j : ℕ) : EReal :=
  if h : j < 49408 then tokens m c (ix3 b p ⟨j, h⟩) * weights m c (ix2 ⟨j, h⟩ d) else 0

/-- The products of a column of the tokens' block and a row of the weights', inside the arrays. -/
theorem blocks_term (t : Fin cfg0.N) (p : Fin 77) (b : Fin 2) (d : Fin 768) (k : Fin 2048) (h : t.val = 24 → k.val < 256) :
    (xblk m c t (ix3 p b k) * wblk m c t (ix2 k d) : EReal) = term m c p b d (2048 * t.val + k.val) := by
  have ht : t.val < 25 := t.isLt
  have hk : 2048 * t.val + k.val < 49408 := by have := k.isLt; by_cases e : t.val = 24 <;> [have := h e; skip] <;> omega
  rw [xblk_apply m c t p b k h hk, wblk_apply m c t k d h hk, term, dif_pos hk]

/-- The product a point computes: 2048 terms of the sum over the vocabulary. -/
theorem part_apply (t : Fin cfg0.N) (p : Fin 77) (b : Fin 2) (d : Fin 768) :
    (part (grid0.coords t) (xblk m c t) (wblk m c t) (ix2 (row154 p b) d) : EReal)
      = ∑ k ∈ Finset.range 2048, term m c p b d (2048 * t.val + k) := by
  rw [Finset.sum_range]
  unfold part
  by_cases ht : t.val = 24
  · rw [if_pos ((isLast_iff t).mpr ht), cut_apply]
    refine Finset.sum_congr rfl fun k _ => ?_
    rw [unfold_row]
    by_cases hk : k.val < 256
    · rw [if_pos hk, blocks_term m c t p b d k fun _ => hk]
    · rw [if_neg hk, term, dif_neg (by omega)]
  · rw [if_neg fun h => ht ((isLast_iff t).mp h), whole_apply]
    refine Finset.sum_congr rfl fun k _ => ?_
    rw [unfold_row, blocks_term m c t p b d k fun h => absurd h ht]

/-- After point `n` the result's buffer holds the sum's first `2048 * (n + 1)` terms plus the positions. -/
theorem acc_apply (p : Fin 77) (b : Fin 2) (d : Fin 768) : ∀ n : ℕ, n < cfg0.N →
    (acc m c (n + 1) (ix3 p b d) : EReal)
      = (∑ j ∈ Finset.range (2048 * (n + 1)), term m c p b d j) + positions m c (ix2 p d)
  | 0, h => by
    rw [acc_succ m c ⟨0, h⟩]
    unfold stepOut
    rw [if_pos ((first_iff ⟨0, h⟩).mpr rfl), first_apply, part_apply, pblk_apply]
    simp only [Nat.mul_zero, Nat.zero_add, Nat.mul_one]
  | n + 1, h => by
    rw [acc_succ m c ⟨n + 1, h⟩]
    unfold stepOut
    rw [if_neg fun e => Nat.succ_ne_zero n ((first_iff ⟨n + 1, h⟩).mp e), later_apply, part_apply,
      acc_apply p b d n (Nat.lt_of_succ_lt h), Nat.mul_succ 2048 (n + 1), Finset.sum_range_add]
    exact add_right_comm _ _ _

/-- The sum of all the points' terms is the sum over the vocabulary. -/
theorem terms_all (p : Fin 77) (b : Fin 2) (d : Fin 768) :
    ∑ j ∈ Finset.range (2048 * 25), term m c p b d j
      = ∑ k : Fin 49408, tokens m c (ix3 b p k) * weights m c (ix2 k d) := by
  rw [show 2048 * 25 = 49408 + 1792 from rfl, Finset.sum_range_add,
    Finset.sum_eq_zero (s := Finset.range 1792) fun k _ => by rw [term, dif_neg (by omega)], add_zero, Finset.sum_range]
  exact Finset.sum_congr rfl fun k _ => by rw [term, dif_pos k.isLt]

/-! ## The program's result -/

/-- The program's result. -/
def result : FVec Ideal S2x77x768 .f32 :=
  transpose S2x77x768 [1, 0, 2] (acc m c 25) transposes_S77x2x768_S2x77x768_1_0_2

/-- Entry (b, p, d) of it: the sum over the vocabulary plus the positions. -/
theorem result_apply (b : Fin 2) (p : Fin 77) (d : Fin 768) :
    (result m c (ix3 b p d) : EReal)
      = (∑ k : Fin 49408, tokens m c (ix3 b p k) * weights m c (ix2 k d)) + positions m c (ix2 p d) := by
  unfold result
  refine (transpose_apply _ _ _ _ (ix3 p b d) fun a => ?_).trans ?_
  · match a with
    | ⟨0, _⟩ => rfl
    | ⟨1, _⟩ => rfl
    | ⟨2, _⟩ => rfl
  · rw [acc_apply m c p b d 24 (by decide), terms_all]

/-- The pipeline's result array ends at what the last point left in the buffer. -/
theorem array_eq : (dats m 0 c).arrAt 3 cfg0.N = acc m c 25 := by
  refine (dats m 0 c).arrAt_eq_of_after_last 3 ⟨24, by decide⟩ (by decide +kernel) _ fun j => ?_
  rw [after0_3]
  rfl

/-- The run ends with the program's result in its array and the three arguments as it found them. -/
theorem run_value (ρ : Dev nD → PrngReg) : θ_run defs (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ⟨?_, h.2.1 c⟩) (θ_run_and (run_main m ρ) (frame m ρ))
  refine ((h.1.1 c).2 main_v0 (Pipeline.mem_restRefs_of main_v0 (by decide) (by decide))).trans ?_
  unfold Pipeline.afterTail₀ result
  rw [← array_eq m c, ← Pipeline.withArrays_arr spec0 (by decide) c (V0 m c) (fun w => (dats m 0 c).arrAt w cfg0.N) 3]
  rfl

end Cert.KernelIdeal.Body

end
-- ==== Proof.Reference.lean ====
/-
  What the reference computes, over the extended reals: entry (b, p, d) of its result is the sum over the vocabulary of
  the tokens' entry (b, p, k) times the weights' entry (k, d), plus the positions' entry (p, d).
-/
module

public import proofs.«01_k».proof.Proof.Gen.ReferenceIdeal.Read
public import Idealize.ShloMosaic.Lib.ValueIdx
public import Idealize.ShloMosaic.Lib.Pipeline.Value

@[expose] public section

set_option maxRecDepth 16384

noncomputable section

namespace Cert.ReferenceIdeal.Body

open Cert.ReferenceIdeal Cert.ReferenceIdeal.Gen Cert.ReferenceIdeal.Read
open Idealize.ShloMosaic Idealize.ShloMosaic.ValueIdx
open scoped BigOperators

/-- Position `p`'s index is `p`: it is not negative, so nothing is added to it. -/
theorem index_eq : ∀ p : Fin 77, val_main_call0_v5 (F := Ideal) (ix3 (0 : Fin 1) p (0 : Fin 1)) = BitVec.ofNat 32 p.val := by
  decide +kernel

/-- Every index is among the positions' rows, so no entry is replaced by the fill. -/
theorem inside : ∀ p : Fin 77, val_main_call0_v12 (F := Ideal) (ix2 (0 : Fin 1) p) = 1#1 := by
  decide +kernel

/-- Position `p`'s index, read signed and cut to the positions' rows, is `p`. -/
theorem start_eq : ∀ p : Fin 77, min (BitVec.ofNat 32 p.val).toInt.toNat (77 - 1) = p.val := by
  decide +kernel

/-- The looked-up rows are the positions in order. -/
theorem lookup_apply (x2 : FVec Ideal S77x768 .f32) (p : Fin 77) (d : Fin 768) :
    val_main_call0_v13 (F := Ideal) x2 (ix3 (0 : Fin 1) p d) = x2 (ix2 p d) := by
  unfold val_main_call0_v13 Host.gather
  refine congrArg x2 (funext fun a => Fin.ext ?_)
  set g := gather_S77x768_S1x77x1_S1x77x768_2_0_n_n_0_2_1768 with hg
  show g.start (ix3 (0 : Fin 1) p d) (val_main_call0_v5 (F := Ideal)) a + g.batchCoord (ix3 (0 : Fin 1) p d) a
    + g.offCoord (ix3 (0 : Fin 1) p d) a = (ix2 p d a).val
  rw [GatherDims.batchCoord_eq_zero _ _ _ List.not_mem_nil, Nat.add_zero]
  obtain rfl | rfl : a = (0 : Fin 2) ∨ a = (1 : Fin 2) := by
    match a with
    | ⟨0, _⟩ => exact Or.inl rfl
    | ⟨1, _⟩ => exact Or.inr rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ g.startIndexMap from List.mem_singleton.mpr rfl)]
    have hsi : g.siIdx (ix3 (0 : Fin 1) p d) ⟨List.idxOf (0 : Fin 2) g.startIndexMap,
        List.idxOf_lt_length_iff.2 (List.mem_singleton.mpr rfl)⟩ = ix3 (0 : Fin 1) p (0 : Fin 1) := by
      funext b
      match b with
      | ⟨0, _⟩ => rfl
      | ⟨1, _⟩ => rfl
      | ⟨2, _⟩ => rfl
    refine (congrArg (fun i => min (val_main_call0_v5 (F := Ideal) i).toInt.toNat (77 - 1)) hsi).trans ?_
    exact (congrArg (fun z : BitVec 32 => min z.toInt.toNat (77 - 1)) (index_eq p)).trans (start_eq p)
  · unfold GatherDims.start
    rw [dif_neg (show ¬(1 : Fin 2) ∈ g.startIndexMap by decide), Nat.zero_add]
    unfold GatherDims.offCoord
    rw [dif_pos (show (1 : Fin 2) ∈ g.sKept by decide)]
    rfl

/-- Entry (b, p, d) of the reference's result. -/
theorem result_apply (x0 : FVec Ideal S2x77x49408 .f32) (x1 : FVec Ideal S49408x768 .f32) (x2 : FVec Ideal S77x768 .f32)
    (b : Fin 2) (p : Fin 77) (d : Fin 768) :
    val_main_v5 (F := Ideal) x0 x1 x2 (ix3 b p d)
      = ((∑ k : Fin 49408, x0 (ix3 b p k) * x1 (ix2 k d)) + x2 (ix2 p d) : EReal) := by
  rw [val_main_v5_apply]
  refine congrArg₂ (fun u v : EReal => u + v) ?_ ?_
  · rw [val_main_v2_apply]
    refine Finset.sum_congr rfl fun k _ => ?_
    rw [eq_ix3 (lidx_main_v2 (ix3 b p d) k), eq_ix2 (ridx_main_v2 (ix3 b p d) k)]
    rfl
  · rw [val_main_v4_apply, show idx_main_v4 (ix3 b p d) = ix3 (0 : Fin 1) p d from eq_ix3 _, val_main_v3_apply,
      val_main_call0_v14_apply, show idx_main_call0_v14 (ix3 (0 : Fin 1) p d) = ix2 (0 : Fin 1) p from eq_ix2 _, inside,
      lookup_apply]
    rfl

end Cert.ReferenceIdeal.Body

end
-- ==== Proof.Equation.lean ====
/-
  The equation: over the extended reals the kernel's result and the reference's are the same array of the arguments.
-/
module

public import proofs.«01_k».proof.Proof.Array
public import proofs.«01_k».proof.Proof.Reference

@[expose] public section

noncomputable section

namespace Cert.KernelIdeal.Body

open Cert.KernelIdeal
open Idealize.ShloMosaic hiding ix2 ix3 eq_ix3
open Idealize.ShloMosaic.ValueIdx

/-- The kernel's result is the reference's, of the kernel's arguments. -/
theorem result_eq (m : (ℓ : Loc nD τ sig) → Buf (Elt Ideal) ℓ) (c : Dev nD) :
    result m c = Cert.ReferenceIdeal.Read.val_main_v5 (F := Ideal) (tokens m c) (weights m c) (positions m c) := by
  funext i
  obtain ⟨b, p, d, rfl⟩ : ∃ (b : Fin 2) (p : Fin 77) (d : Fin 768), i = ix3 b p d := ⟨_, _, _, eq_ix3 i⟩
  rw [result_apply, Cert.ReferenceIdeal.Body.result_apply]

end Cert.KernelIdeal.Body

end
-- ==== Proof.Programs.lean ====
/-
  The kernel as certified and its idealization are one program: no operation was replaced.
-/
module

public import proofs.«01_k».proof.Defs
public import proofs.«01_k».proof.Proof.Gen.Kernel.Frame
public import proofs.«01_k».proof.Proof.Gen.KernelIdeal.Frame

@[expose] public section

noncomputable section

namespace Cert.KernelIdeal.Body

open Idealize.ShloMosaic Idealize.SL.Sem

variable {F : FTy → Type} [FloatOps F]

/-- The two kernels' bodies are the same. -/
theorem bodies_eq : Cert.Kernel.defs₀ (F := F) = Cert.KernelIdeal.defs₀ (F := F) := by
  unfold Cert.Kernel.defs₀ Cert.KernelIdeal.defs₀
  refine congrArg Defs.onTc (funext fun l => funext fun x => ?_)
  obtain ⟨_ | n, h⟩ := l
  · rfl
  · exact absurd h (Nat.not_lt.2 (Nat.le_add_left _ _))

/-- The two programs' tables of bodies are the same. -/
theorem tables_eq : Cert.Kernel.defs (F := F) = Cert.KernelIdeal.defs (F := F) :=
  congrArg (Pipeline.defs (Cert.KernelIdeal.pcfgs (F := F))) bodies_eq

end Cert.KernelIdeal.Body

end
-- ==== Proof.lean ====
/-
  The certificate's claims, assembled: the frames of the kernel, of its idealization and of the reference, and the
  equality of the kernel's result with the reference's over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Run
public import proofs.«01_k».proof.Proof.Array
public import proofs.«01_k».proof.Proof.Equation
public import proofs.«01_k».proof.Proof.Programs
public import Idealize.ShloMosaic.Adequacy
public import Idealize.ShloMosaic.Init

@[expose] public section

noncomputable section

namespace Cert.Proof

open Idealize.ShloMosaic Idealize.SL.Sem

/-- The kernel runs to the end from any memory, its arguments unchanged and its counters at zero. -/
theorem kernel_frame : Cert.quiescent_Kernel := fun m ρ _ => by
  rw [Cert.KernelIdeal.Body.tables_eq]
  exact Cert.KernelIdeal.Body.frame (F := Bits) m ρ

/-- Its idealization likewise. -/
theorem ideal_frame : Cert.quiescent_KernelIdeal := fun m ρ _ => Cert.KernelIdeal.Body.frame m ρ

/-- The reference likewise; it has no counters. -/
theorem reference_frame : Cert.quiescent_ReferenceIdeal := fun m ρ _ =>
  (θ_run _ _ _).mono (fun r h => ⟨fun c => (h c).2, sem_eq_zero_of_no_sems (by decide) r.2⟩)
    (Cert.ReferenceIdeal.Value.run m ρ)

/-- From memories agreeing on the arguments the kernel's idealization and the reference end with equal results. -/
theorem equal_results : Cert.algebraic_KernelIdeal_ReferenceIdeal := fun m g m' g' _ hm =>
  ⟨fun c => Cert.KernelIdeal.Body.result m c, Cert.KernelIdeal.Body.run_value m g,
    (θ_run _ _ _).mono (fun r h c => ⟨(h c).1.trans (by
      obtain ⟨h0, h1, h2⟩ := hm c
      rw [h0, h1, h2, Cert.ReferenceIdeal.Read.val_main_v5_eq]
      exact (Cert.KernelIdeal.Body.result_eq m c).symm), (h c).2⟩) (Cert.ReferenceIdeal.Value.run m' g')⟩

/-- Everything the certificate claims. -/
theorem claim : Cert.Claim := ⟨Cert.Kernel.Gen.facts, Cert.KernelIdeal.Gen.facts, Cert.ReferenceIdeal.Gen.facts,
  kernel_frame, ideal_frame, reference_frame, trivial, equal_results⟩

end Cert.Proof

end
